-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x32 : Shape := ⟨2, ![256, 32]⟩
abbrev S32 : Shape := ⟨1, ![32]⟩
abbrev S100x1x1000 : Shape := ⟨3, ![100, 1, 1000]⟩
abbrev S1x128 : Shape := ⟨2, ![1, 128]⟩
abbrev S1x256 : Shape := ⟨2, ![1, 256]⟩
abbrev S1x32 : Shape := ⟨2, ![1, 32]⟩
abbrev S512x32 : Shape := ⟨2, ![512, 32]⟩
abbrev S1x1x1000 : Shape := ⟨3, ![1, 1, 1000]⟩
abbrev S1000x128 : Shape := ⟨2, ![1000, 128]⟩
abbrev S512x128 : Shape := ⟨2, ![512, 128]⟩
abbrev S512x1 : Shape := ⟨2, ![512, 1]⟩
abbrev S1x1000 : Shape := ⟨2, ![1, 1000]⟩
abbrev S512x1000 : Shape := ⟨2, ![512, 1000]⟩
abbrev S512 : Shape := ⟨1, ![512]⟩
abbrev S512x256 : Shape := ⟨2, ![512, 256]⟩

abbrev nBuf : Space → Nat
  | .hbm => 16
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x32, .f32⟩
  | .hbm, ⟨9, _⟩ => ⟨S32, .f32⟩
  | .hbm, ⟨10, _⟩ => ⟨S100x1x1000, .i32⟩
  | .hbm, ⟨11, _⟩ => ⟨S1x128, .f32⟩
  | .hbm, ⟨12, _⟩ => ⟨S1x128, .f32⟩
  | .hbm, ⟨13, _⟩ => ⟨S1x256, .f32⟩
  | .hbm, ⟨14, _⟩ => ⟨S1x32, .f32⟩
  | .hbm, ⟨15, _⟩ => ⟨S512x32, .f32⟩
  | .local _ .vmem, ⟨0, _⟩ => ⟨S1x1x1000, .i32⟩
  | .local _ .vmem, ⟨1, _⟩ => ⟨S1x1x1000, .i32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S256x256, .f32⟩
  | .local _ .vmem, ⟨9, _⟩ => ⟨S1x256, .f32⟩
  | .local _ .vmem, ⟨10, _⟩ => ⟨S256x32, .f32⟩
  | .local _ .vmem, ⟨11, _⟩ => ⟨S1x32, .f32⟩
  | .local _ .vmem, ⟨12, _⟩ => ⟨S512x32, .f32⟩
  | .local _ .vmem, ⟨13, _⟩ => ⟨S512x128, .f32⟩
  | .local _ .vmem, ⟨14, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v39 : BitVec 1 := Scalar.cmpi .eq arg0 c99_i32
  let v40 : BitVec 32 := Scalar.extui v39
  let c0_i32_25 : BitVec 32 := 0#32
  let v41 : BitVec 1 := Scalar.cmpi .ne v40 c0_i32_25
  v41

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S256x256 : Shape := ⟨2, ![256, 256]⟩
abbrev S256 : Shape := ⟨1, ![256]⟩
abbrev S256x32 : Shape := ⟨2, ![256, 32]⟩
abbrev S32 : Shape := ⟨1, ![32]⟩
abbrev S1x128 : Shape := ⟨2, ![1, 128]⟩
abbrev S_ : Shape := ⟨0, ![]⟩
abbrev S512x128 : Shape := ⟨2, ![512, 128]⟩
abbrev S100000x1 : Shape := ⟨2, ![100000, 1]⟩
abbrev S512x1 : Shape := ⟨2, ![512, 1]⟩
abbrev S512x256 : Shape := ⟨2, ![512, 256]⟩
abbrev S1x256 : Shape := ⟨2, ![1, 256]⟩
abbrev S512x32 : Shape := ⟨2, ![512, 32]⟩
abbrev S1x32 : Shape := ⟨2, ![1, 32]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x256, .f32⟩
  | .hbm, ⟨7, _⟩ => ⟨S256, .f32⟩
  | .hbm, ⟨8, _⟩ => ⟨S256x32, .f32⟩
  | .hbm, ⟨9, _⟩ => ⟨S32, .f32⟩
  | .hbm, ⟨10, _⟩ => ⟨S100000x128, .f32⟩
  | .hbm, ⟨11, _⟩ => ⟨S1x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S512x128, .f32⟩
  | .hbm, ⟨23, _⟩ => ⟨S100000x1, .i32⟩
  | .hbm, ⟨24, _⟩ => ⟨S512x128, .f32⟩
  | .hbm, ⟨25, _⟩ => ⟨S_, .f32⟩
  | .hbm, ⟨26, _⟩ => ⟨S100000x1, .f32⟩
  | .hbm, ⟨27, _⟩ => ⟨S_, .f32⟩
  | .hbm, ⟨28, _⟩ => ⟨S512x1, .f32⟩
  | .hbm, ⟨29, _⟩ => ⟨S100000x1, .i32⟩
  | .hbm, ⟨30, _⟩ => ⟨S512x1, .f32⟩
  | .hbm, ⟨31, _⟩ => ⟨S_, .f32⟩
  | .hbm, ⟨32, _⟩ => ⟨S_, .f32⟩
  | .hbm, ⟨33, _⟩ => ⟨S512x1, .f32⟩
  | .hbm, ⟨34, _⟩ => ⟨S512x1, .f32⟩
  | .hbm, ⟨35, _⟩ => ⟨S512x128, .f32⟩
  | .hbm, ⟨36, _⟩ => ⟨S512x128, .f32⟩
  | .hbm, ⟨37, _⟩ => ⟨S512x256, .f32⟩
  | .hbm, ⟨38, _⟩ => ⟨S512x256, .f32⟩
  | .hbm, ⟨39, _⟩ => ⟨S1x256, .f32⟩
  | .hbm, ⟨40, _⟩ => ⟨S512x256, .f32⟩
  | .hbm, ⟨41, _⟩ => ⟨S512x256, .f32⟩
  | .hbm, ⟨42, _⟩ => ⟨S_, .f32⟩
  | .hbm, ⟨43, _⟩ => ⟨S512x256, .f32⟩
  | .hbm, ⟨44, _⟩ => ⟨S512x256, .f32⟩
  | .hbm, ⟨45, _⟩ => ⟨S512x32, .f32⟩
  | .hbm, ⟨46, _⟩ => ⟨S1x32, .f32⟩
  | .hbm, ⟨47, _⟩ => ⟨S512x32, .f32⟩
  | .hbm, ⟨48, _⟩ => ⟨S512x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Proof.Cases.lean ====
/-
  What one run of the kernel's body leaves in the two carried accumulators and, at the last point, in the output block:
  the run's pieces read back as the body's payload terms. Case A is the first grid point (the accumulators are zeroed
  before they are added to), case B a middle point, case C the last point (which also writes the output).
-/
module

public import proofs.«01_k».proof.Proof.Gen.KernelIdeal.Frame
public import Idealize.ShloMosaic.Lib.Pipeline.Value

@[expose] public section

noncomputable section

namespace Cert.KernelIdeal.Sums

open Cert.KernelIdeal Cert.KernelIdeal.Gen Idealize.ShloMosaic Idealize.ShloMosaic.TcCoe

variable {F : FTy → Type} [FloatOps F]
variable (c : Dev nD) (i : grid0.Coords)
variable (arg1 : Memref sig .tc .vmem S1x1x1000 .i32) (harg1 : arg1.IsWhole)
variable (arg2 : Memref sig .tc .vmem S1000x128 .f32) (harg2 : arg2.IsWhole)
variable (arg3 : Memref sig .tc .vmem S128x128 .f32) (harg3 : arg3.IsWhole)
variable (arg4 : Memref sig .tc .vmem S1x128 .f32) (harg4 : arg4.IsWhole)
variable (arg5 : Memref sig .tc .vmem S128x128 .f32) (harg5 : arg5.IsWhole)
variable (arg6 : Memref sig .tc .vmem S1x128 .f32) (harg6 : arg6.IsWhole)
variable (arg7 : Memref sig .tc .vmem S256x256 .f32) (harg7 : arg7.IsWhole)
variable (arg8 : Memref sig .tc .vmem S1x256 .f32) (harg8 : arg8.IsWhole)
variable (arg9 : Memref sig .tc .vmem S256x32 .f32) (harg9 : arg9.IsWhole)
variable (arg10 : Memref sig .tc .vmem S1x32 .f32) (harg10 : arg10.IsWhole)
variable (arg11 : Memref sig .tc .vmem S512x32 .f32) (harg11 : arg11.IsWhole)
variable (arg12 : Memref sig .tc .vmem S512x128 .f32) (harg12 : arg12.IsWhole)
variable (arg13 : Memref sig .tc .vmem S512x1 .f32) (harg13 : arg13.IsWhole)
variable (x0 : Vec F S1x1x1000 .i32) (x1 : Vec F S1000x128 .f32) (x2 : Vec F S128x128 .f32) (x3 : Vec F S1x128 .f32) (x4 : Vec F S128x128 .f32) (x5 : Vec F S1x128 .f32) (x6 : Vec F S256x256 .f32) (x7 : Vec F S1x256 .f32) (x8 : Vec F S256x32 .f32) (x9 : Vec F S1x32 .f32)
variable (xs0 : Vec F S512x128 .f32) (xs1 : Vec F S512x1 .f32)

section Whole
variable {Val : EltTy → Type} [∀ e, Nonempty (Val e)] {e : EltTy} {n0 n1 n2 : Nat}

/-- The offsets of a whole rank-2 block are all zero. -/
theorem off2 : (![0, 0] : Fin (⟨2, ![n0, n1]⟩ : Shape).rank → Nat) = fun _ => 0 := by
  funext a; match a with | ⟨0, _⟩ => rfl | ⟨1, _⟩ => rfl
/-- The offsets of a whole rank-3 block are all zero. -/
theorem off3 : (![0, 0, 0] : Fin (⟨3, ![n0, n1, n2]⟩ : Shape).rank → Nat) = fun _ => 0 := by
  funext a; match a with | ⟨0, _⟩ => rfl | ⟨1, _⟩ => rfl | ⟨2, _⟩ => rfl

/-- A load of a whole matrix reads the matrix. -/
theorem ld_whole2 (X : (⟨2, ![n0, n1]⟩ : Shape).Idx → Val e) (inb) :
    View.ld X (Rect.unit (s := ⟨2, ![n0, n1]⟩) ![0, 0] ![n0, n1] inb) = X := View.ld_unit_zero off2 inb X
/-- A load of a whole rank-3 block reads the block. -/
theorem ld_whole3 (X : (⟨3, ![n0, n1, n2]⟩ : Shape).Idx → Val e) (inb) :
    View.ld X (Rect.unit (s := ⟨3, ![n0, n1, n2]⟩) ![0, 0, 0] ![n0, n1, n2] inb) = X := View.ld_unit_zero off3 inb X
/-- A store of a whole matrix, last, leaves what it stored. -/
theorem canon_whole2 (w : (⟨2, ![n0, n1]⟩ : Shape).Idx → Val e) (inb) (L : List (View.Piece Val ⟨2, ![n0, n1]⟩ e)) :
    View.canon ((⟨Rect.unit (s := ⟨2, ![n0, n1]⟩) ![0, 0] ![n0, n1] inb, w⟩ : View.Piece Val ⟨2, ![n0, n1]⟩ e) :: L) = w :=
  View.canon_cons_unit_zero off2 inb w L
/-- A load of a whole matrix after one store of it reads what was stored. -/
theorem readCov_whole2 {sig : RefSig} {κ : Kind} {sp : Space} (v : View sig κ sp ⟨2, ![n0, n1]⟩ e)
    (w : (⟨2, ![n0, n1]⟩ : Shape).Idx → Val e) (inb) :
    v.readCov [(⟨Rect.unit (s := ⟨2, ![n0, n1]⟩) ![0, 0] ![n0, n1] inb, w⟩ : View.Piece Val ⟨2, ![n0, n1]⟩ e)]
      (Rect.unit (s := ⟨2, ![n0, n1]⟩) ![0, 0] ![n0, n1] inb).toLoadRect = w :=
  View.readCov_unit_zero v off2 inb w
end Whole

/-- The first point leaves its block's contribution added to zero in the sums. -/
theorem sout0_A_0_eq (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = k0_pay6 x1 x2 x3 x4 x5 x0 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  simp only [canon_whole2, readCov_whole2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, ld_whole2, ld_whole3]

/-- The first point leaves its block's contribution added to zero in the counts. -/
theorem sout0_A_1_eq (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = k0_pay1 (k0_pay5 x0) (k0_pay4 (F := F)) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  simp only [canon_whole2, readCov_whole2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, ld_whole2, ld_whole3]

/-- The middle point leaves its block's contribution added to what the point before left in the sums. -/
theorem sout0_B_0_eq (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 = k0_pay6 x1 x2 x3 x4 x5 x0 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  unfold kernelRun0_B
  dsimp only
  sl_unfold_words
  simp only [canon_whole2, readCov_whole2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, ld_whole2, ld_whole3]

/-- The middle point leaves its block's contribution added to what the point before left in the counts. -/
theorem sout0_B_1_eq (hc0 : ¬cond0_0 i) (hc1 : ¬cond0_1 i) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 = k0_pay1 (k0_pay5 x0) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  unfold kernelRun0_B
  dsimp only
  sl_unfold_words
  simp only [canon_whole2, readCov_whole2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, ld_whole2, ld_whole3]

/-- The last point leaves its block's contribution added to what the point before left in the sums. -/
theorem sout0_C_0_eq (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 = k0_pay6 x1 x2 x3 x4 x5 x0 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  unfold kernelRun0_C
  dsimp only
  sl_unfold_words
  simp only [canon_whole2, readCov_whole2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, ld_whole2, ld_whole3]

/-- The last point leaves its block's contribution added to what the point before left in the counts. -/
theorem sout0_C_1_eq (hc0 : ¬cond0_0 i) (hc1 : cond0_1 i) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 = k0_pay1 (k0_pay5 x0) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  unfold kernelRun0_C
  dsimp only
  sl_unfold_words
  simp only [canon_whole2, readCov_whole2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, ld_whole2, ld_whole3]

/-- The last point writes the network's second half, read off the finished sums and counts. -/
theorem out0_C_10_eq (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1 = k0_pay2 (k0_pay6 x1 x2 x3 x4 x5 x0 xs0) (k0_pay1 (k0_pay5 x0) xs1) x6 x7 x8 x9 := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 xs1)]
  unfold kernelRun0_C
  dsimp only
  sl_unfold_words
  simp only [canon_whole2, readCov_whole2, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, ld_whole2, ld_whole3]

end Cert.KernelIdeal.Sums

end
-- ==== Proof.Blocks.lean ====
/-
  The blocks the kernel stages, read in terms of the arguments: block `t` of the rows is rows `1000 t` to `1000 t + 999`
  of `x`, block `t` of the events the same stretch of the event numbers, and each weight and bias is staged whole.
-/
module

public import proofs.«01_k».proof.Proof.Gen.KernelIdeal.Frame
public import Idealize.ShloMosaic.Lib.Pipeline.Value
public import Idealize.ShloMosaic.Lib.StableHlo.Run
public import Idealize.ShloMosaic.Lib.ValueIdxCore

@[expose] public section

noncomputable section

namespace Cert.KernelIdeal.Sums

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ) (c : Dev nD) (t : Fin cfg0.N)

/-- Row `r` of block `t`, as a row of the whole array. -/
def rowOf (t : Fin cfg0.N) (r : Fin 1000) : Fin 100000 :=
  ⟨1000 * t.val + r.val, by have h : t.val < 100 := lt_of_lt_of_eq t.isLt N_0; omega⟩

/-- The reshape of argument 1 the kernel is handed. -/
theorem V_main_v0 : V m c main_v0 = shapeCast S100x1x1000 (m ((c : Thread nD τ).loc main_arg1)) shapeCasts_S100000_S100x1x1000 := by
  show StableHlo.after hostOps0 _ (Proc.devRef .tc main_v0) = _
  after_results
  rfl

/-- The reshape of argument 3 the kernel is handed. -/
theorem V_main_v1 : V m c main_v1 = shapeCast S1x128 (m ((c : Thread nD τ).loc main_arg3)) shapeCasts_S128_S1x128 := by
  show StableHlo.after hostOps0 _ (Proc.devRef .tc main_v1) = _
  after_results
  rfl

/-- The reshape of argument 5 the kernel is handed. -/
theorem V_main_v2 : V m c main_v2 = shapeCast S1x128 (m ((c : Thread nD τ).loc main_arg5)) shapeCasts_S128_S1x128 := by
  show StableHlo.after hostOps0 _ (Proc.devRef .tc main_v2) = _
  after_results
  rfl

/-- The reshape of argument 7 the kernel is handed. -/
theorem V_main_v3 : V m c main_v3 = shapeCast S1x256 (m ((c : Thread nD τ).loc main_arg7)) shapeCasts_S256_S1x256 := by
  show StableHlo.after hostOps0 _ (Proc.devRef .tc main_v3) = _
  after_results
  rfl

/-- The reshape of argument 9 the kernel is handed. -/
theorem V_main_v4 : V m c main_v4 = shapeCast S1x32 (m ((c : Thread nD τ).loc main_arg9)) shapeCasts_S32_S1x32 := by
  show StableHlo.after hostOps0 _ (Proc.devRef .tc main_v4) = _
  after_results
  rfl

/-- The point's block index in the row array is the point's number. -/
theorem index_rows : win0_1.index t 0 = t.val ∧ win0_1.index t 1 = 0 := by
  revert t; decide +kernel
/-- The point's block index in the event array is the point's number. -/
theorem index_event : win0_0.index t 0 = t.val ∧ win0_0.index t 1 = 0 ∧ win0_0.index t 2 = 0 := by
  revert t; decide +kernel

/-- Entry `(r, d)` of block `t` of the rows. -/
theorem block_rows (r : Fin 1000) (d : Fin 128) :
    (iblk m c 1 t : Vec F S1000x128 .f32) (ix2 r d) = m ((c : Thread nD τ).loc main_arg0) (ix2 (rowOf t r) d) := by
  have hi := index_rows t
  unfold iblk
  rw [View.read_apply]
  show V m c main_arg0 _ = m ((c : Thread nD τ).loc main_arg0) _
  rw [V_main_arg0]
  congr 1
  funext a
  apply Fin.ext
  match a with
  | ⟨0, _⟩ => show win0_1.index t 0 * 1000 + 1 * r.val = 1000 * t.val + r.val; rw [hi.1]; omega
  | ⟨1, _⟩ => show win0_1.index t 1 * 128 + 1 * d.val = d.val; rw [hi.2]; omega

/-- Entry `r` of block `t` of the events. -/
theorem block_event (r : Fin 1000) :
    (iblk m c 0 t : Vec F S1x1x1000 .i32) (ix3 (0 : Fin 1) (0 : Fin 1) r) = m ((c : Thread nD τ).loc main_arg1) (ix1 (rowOf t r)) := by
  have hi := index_event t
  unfold iblk
  rw [View.read_apply]
  show V m c main_v0 _ = m ((c : Thread nD τ).loc main_arg1) _
  rw [V_main_v0]
  unfold shapeCast
  congr 1
  have ht : t.val < 100 := lt_of_lt_of_eq t.isLt N_0
  have e : (((cfg0.win 0).blk t).view.emb (ix3 (0 : Fin 1) (0 : Fin 1) r) : S100x1x1000.Idx) = ix3 (⟨t.val, ht⟩ : Fin 100) (0 : Fin 1) r := by
    funext a
    apply Fin.ext
    match a with
    | ⟨0, _⟩ => show win0_0.index t 0 * 1 + 1 * 0 = t.val; rw [hi.1]; omega
    | ⟨1, _⟩ => show win0_0.index t 1 * 1 + 1 * 0 = 0; rw [hi.2.1]
    | ⟨2, _⟩ => show win0_0.index t 2 * 1000 + 1 * r.val = r.val; rw [hi.2.2]; omega
  refine Shape.reshapeEquiv_eq_of_rowMajor _ ?_
  refine Eq.trans ?_ (congrArg (fun j : S100x1x1000.Idx => ((S100x1x1000.rowMajor j : Fin _) : Nat)) e.symm)
  refine (Shape.rowMajor_val_one (d := ![100000]) (ix1 (rowOf t r))).trans (Eq.trans ?_ (Shape.rowMajor_val_three (d := ![100, 1, 1000]) _).symm)
  show 1000 * t.val + r.val = (t.val * 1 + 0) * 1000 + r.val
  omega

/-- Window 2 stages its array whole. -/
theorem block_w2 : (iblk m c 2 t : Vec F S128x128 .f32) = m ((c : Thread nD τ).loc main_arg2) := by
  rw [← V_main_arg2 m c]
  funext j
  unfold iblk
  rw [View.read_apply]
  show V m c main_arg2 _ = V m c main_arg2 _
  congr 1
  funext a
  apply Fin.ext
  match a with
  | ⟨0, _⟩ => show 0 * 128 + 1 * (j 0).val = (j 0).val; omega
  | ⟨1, _⟩ => show 0 * 128 + 1 * (j 1).val = (j 1).val; omega

/-- Window 3 stages its array whole. -/
theorem block_w3 : (iblk m c 3 t : Vec F S1x128 .f32) = shapeCast S1x128 (m ((c : Thread nD τ).loc main_arg3)) shapeCasts_S128_S1x128 := by
  rw [← V_main_v1 m c]
  funext j
  unfold iblk
  rw [View.read_apply]
  show V m c main_v1 _ = V m c main_v1 _
  congr 1
  funext a
  apply Fin.ext
  match a with
  | ⟨0, _⟩ => show 0 * 1 + 1 * (j 0).val = (j 0).val; omega
  | ⟨1, _⟩ => show 0 * 128 + 1 * (j 1).val = (j 1).val; omega

/-- Window 4 stages its array whole. -/
theorem block_w4 : (iblk m c 4 t : Vec F S128x128 .f32) = m ((c : Thread nD τ).loc main_arg4) := by
  rw [← V_main_arg4 m c]
  funext j
  unfold iblk
  rw [View.read_apply]
  show V m c main_arg4 _ = V m c main_arg4 _
  congr 1
  funext a
  apply Fin.ext
  match a with
  | ⟨0, _⟩ => show 0 * 128 + 1 * (j 0).val = (j 0).val; omega
  | ⟨1, _⟩ => show 0 * 128 + 1 * (j 1).val = (j 1).val; omega

/-- Window 5 stages its array whole. -/
theorem block_w5 : (iblk m c 5 t : Vec F S1x128 .f32) = shapeCast S1x128 (m ((c : Thread nD τ).loc main_arg5)) shapeCasts_S128_S1x128 := by
  rw [← V_main_v2 m c]
  funext j
  unfold iblk
  rw [View.read_apply]
  show V m c main_v2 _ = V m c main_v2 _
  congr 1
  funext a
  apply Fin.ext
  match a with
  | ⟨0, _⟩ => show 0 * 1 + 1 * (j 0).val = (j 0).val; omega
  | ⟨1, _⟩ => show 0 * 128 + 1 * (j 1).val = (j 1).val; omega

/-- Window 6 stages its array whole. -/
theorem block_w6 : (iblk m c 6 t : Vec F S256x256 .f32) = m ((c : Thread nD τ).loc main_arg6) := by
  rw [← V_main_arg6 m c]
  funext j
  unfold iblk
  rw [View.read_apply]
  show V m c main_arg6 _ = V m c main_arg6 _
  congr 1
  funext a
  apply Fin.ext
  match a with
  | ⟨0, _⟩ => show 0 * 256 + 1 * (j 0).val = (j 0).val; omega
  | ⟨1, _⟩ => show 0 * 256 + 1 * (j 1).val = (j 1).val; omega

/-- Window 7 stages its array whole. -/
theorem block_w7 : (iblk m c 7 t : Vec F S1x256 .f32) = shapeCast S1x256 (m ((c : Thread nD τ).loc main_arg7)) shapeCasts_S256_S1x256 := by
  rw [← V_main_v3 m c]
  funext j
  unfold iblk
  rw [View.read_apply]
  show V m c main_v3 _ = V m c main_v3 _
  congr 1
  funext a
  apply Fin.ext
  match a with
  | ⟨0, _⟩ => show 0 * 1 + 1 * (j 0).val = (j 0).val; omega
  | ⟨1, _⟩ => show 0 * 256 + 1 * (j 1).val = (j 1).val; omega

/-- Window 8 stages its array whole. -/
theorem block_w8 : (iblk m c 8 t : Vec F S256x32 .f32) = m ((c : Thread nD τ).loc main_arg8) := by
  rw [← V_main_arg8 m c]
  funext j
  unfold iblk
  rw [View.read_apply]
  show V m c main_arg8 _ = V m c main_arg8 _
  congr 1
  funext a
  apply Fin.ext
  match a with
  | ⟨0, _⟩ => show 0 * 256 + 1 * (j 0).val = (j 0).val; omega
  | ⟨1, _⟩ => show 0 * 32 + 1 * (j 1).val = (j 1).val; omega

/-- Window 9 stages its array whole. -/
theorem block_w9 : (iblk m c 9 t : Vec F S1x32 .f32) = shapeCast S1x32 (m ((c : Thread nD τ).loc main_arg9)) shapeCasts_S32_S1x32 := by
  rw [← V_main_v4 m c]
  funext j
  unfold iblk
  rw [View.read_apply]
  show V m c main_v4 _ = V m c main_v4 _
  congr 1
  funext a
  apply Fin.ext
  match a with
  | ⟨0, _⟩ => show 0 * 1 + 1 * (j 0).val = (j 0).val; omega
  | ⟨1, _⟩ => show 0 * 32 + 1 * (j 1).val = (j 1).val; omega

end Cert.KernelIdeal.Sums

end
-- ==== Proof.Segment.lean ====
/-
  Segment sums on extended reals, written two ways: row by row over all rows at once, as a scatter-add of rows gives
  them, and block by block with the rows chosen by a 0/1 matrix, as the kernel's matrix product gives them.
-/
module

public import Idealize.ShloMosaic.PureOps.Ideal.Laws
public import Idealize.ShloMosaic.Lib.ValueIdx
public import Mathlib.Algebra.BigOperators.Fin

@[expose] public section

noncomputable section

namespace Cert.Segment

open Idealize.ShloMosaic Idealize.ShloMosaic.ValueIdx
open scoped BigOperators

/-! ## A scatter-add of whole rows, read at an entry -/

section Scatter
variable {E N D w : Nat}

/-- The dimension numbers of adding row `n` of the updates into the row of the operand that index `n` names. -/
abbrev rows (E N D : Nat) (wf : ScatterDims.WF ⟨2, ![E, D]⟩ ⟨2, ![N, 1]⟩ ⟨2, ![N, D]⟩ [1] [0] [0] 1) :
    ScatterDims ⟨2, ![E, D]⟩ ⟨2, ![N, 1]⟩ ⟨2, ![N, D]⟩ where
  updateWindowDims := [1]
  insertedWindowDims := [0]
  scatterDimsToOperandDims := [0]
  indexVectorDim := 1
  wf := wf

variable (wf : ScatterDims.WF ⟨2, ![E, D]⟩ ⟨2, ![N, 1]⟩ ⟨2, ![N, D]⟩ [1] [0] [0] 1) (idx : IVec ⟨2, ![N, 1]⟩ w)

/-- Update row `n` starts at the row its index names, read signed. -/
theorem rows_start0 (n : Fin N) (k : Fin D) : (rows E N D wf).start (ix2 n k) idx 0 = (idx (ix2 n (0 : Fin 1))).toInt := by
  unfold ScatterDims.start
  rw [dif_pos (show (0 : Fin 2) ∈ [(0 : Fin 2)] by decide)]
  congr 2
  funext b
  match b with
  | ⟨0, _⟩ => rfl
  | ⟨1, _⟩ => rfl

/-- It starts at column 0. -/
theorem rows_start1 (n : Fin N) (k : Fin D) : (rows E N D wf).start (ix2 n k) idx 1 = 0 := by
  unfold ScatterDims.start
  rw [dif_neg (show ¬(1 : Fin 2) ∈ [(0 : Fin 2)] by decide)]

/-- The window adds nothing to the row. -/
theorem rows_window0 (n : Fin N) (k : Fin D) : (rows E N D wf).window (ix2 n k) 0 = 0 := rfl

/-- The window's coordinate along the columns is the update's column. -/
theorem rows_window1 (n : Fin N) (k : Fin D) : (rows E N D wf).window (ix2 n k) 1 = k.val := rfl

/-- Entry `(n, k)` of the updates lands at `(g, d)` exactly when row `n`'s index is `g` and `k` is `d`. -/
theorem rows_lands (n : Fin N) (k : Fin D) (g : Fin E) (d : Fin D) :
    (rows E N D wf).resultIdx? (ix2 n k) idx = some (ix2 g d) ↔ (idx (ix2 n (0 : Fin 1))).toInt = (g.val : Int) ∧ k = d := by
  have s0 := rows_start0 wf idx n k
  have s1 := rows_start1 wf idx n k
  have w0 := rows_window0 wf n k
  have w1 := rows_window1 wf n k
  have hg := g.isLt
  have hk := k.isLt
  unfold ScatterDims.resultIdx?
  constructor
  · intro h
    split at h
    · rename_i hin
      have h' := Option.some.inj h
      have e0 := congrArg Fin.val (congrFun h' 0)
      have e1 := congrArg Fin.val (congrFun h' 1)
      have i0 := (hin 0).1
      dsimp only at e0 e1
      rw [s0, w0] at e0 i0
      rw [s1, w1] at e1
      change _ = g.val at e0
      change _ = d.val at e1
      exact ⟨by omega, Fin.ext (by omega)⟩
    · exact absurd h (by simp)
  · rintro ⟨h, rfl⟩
    have hin : ∀ a, 0 ≤ (rows E N D wf).start (ix2 n k) idx a + (rows E N D wf).window (ix2 n k) a
        ∧ (rows E N D wf).start (ix2 n k) idx a + (rows E N D wf).window (ix2 n k) a < ((⟨2, ![E, D]⟩ : Shape).size a : Int) := by
      intro a
      match a with
      | ⟨0, _⟩ =>
        change 0 ≤ (rows E N D wf).start (ix2 n k) idx 0 + (rows E N D wf).window (ix2 n k) 0
          ∧ (rows E N D wf).start (ix2 n k) idx 0 + (rows E N D wf).window (ix2 n k) 0 < (E : Int)
        rw [s0, w0, h]; omega
      | ⟨1, _⟩ =>
        change 0 ≤ (rows E N D wf).start (ix2 n k) idx 1 + (rows E N D wf).window (ix2 n k) 1
          ∧ (rows E N D wf).start (ix2 n k) idx 1 + (rows E N D wf).window (ix2 n k) 1 < (D : Int)
        rw [s1, w1]; omega
    rw [dif_pos hin]
    congr 1
    funext a
    apply Fin.ext
    match a with
    | ⟨0, _⟩ =>
      change ((rows E N D wf).start (ix2 n k) idx 0 + (rows E N D wf).window (ix2 n k) 0).toNat = g.val
      rw [s0, w0, h]; omega
    | ⟨1, _⟩ =>
      change ((rows E N D wf).start (ix2 n k) idx 1 + (rows E N D wf).window (ix2 n k) 1).toNat = k.val
      rw [s1, w1]; omega

/-- The scatter-add at `(g, d)`: what was there, and the sum of column `d` over the rows whose index is `g`. -/
theorem rows_scatterAdd_apply (x : FVec Ideal ⟨2, ![E, D]⟩ .f32) (upd : FVec Ideal ⟨2, ![N, D]⟩ .f32) (g : Fin E) (d : Fin D) :
    Host.scatterAdd (rows E N D wf) x idx upd (ix2 g d)
      = x (ix2 g d) + ∑ n : Fin N, if (idx (ix2 n (0 : Fin 1))).toInt = (g.val : Int) then upd (ix2 n d) else 0 := by
  show x (ix2 g d) + ∑ j with (rows E N D wf).resultIdx? j idx = some (ix2 g d), upd j = _
  congr 1
  rw [Finset.sum_filter, sum_idx2]
  refine Finset.sum_congr rfl fun n _ => ?_
  simp only [rows_lands]
  by_cases h : (idx (ix2 n (0 : Fin 1))).toInt = (g.val : Int)
  · simp [h]
  · simp [h]

end Scatter

/-! ## The 0/1 matrix -/

/-- A 32-bit word is the number `g` read signed exactly when it is the word of `g`, for `g` below `512`. -/
theorem toInt_eq_iff (b : BitVec 32) (g : Fin 512) : b.toInt = (g.val : Int) ↔ b = BitVec.ofNat 32 g.val := by
  have hg := g.isLt
  have e : (BitVec.ofNat 32 g.val).toInt = (g.val : Int) := by
    rw [BitVec.toInt_eq_toNat_of_lt]
    · rw [BitVec.toNat_ofNat, Nat.mod_eq_of_lt (by omega)]
    · rw [BitVec.toNat_ofNat, Nat.mod_eq_of_lt (by omega)]; omega
  constructor
  · intro h; exact BitVec.eq_of_toInt_eq (h.trans e.symm)
  · rintro rfl; exact e

/-- A product with a 0/1 factor keeps the other factor or gives zero, infinite or not. -/
theorem indicator_mul (p : Prop) [Decidable p] (a : EReal) : (if p then (1 : EReal) else 0) * a = if p then a else 0 := by
  split <;> simp

/-! ## Blocks of rows -/

/-- A sum over `100000` rows is the sum over `100` blocks of the sums over their `1000` rows. -/
theorem sum_blocks (f : Fin 100000 → EReal) :
    ∑ t : Fin 100, ∑ r : Fin 1000, f ⟨1000 * t.val + r.val, by omega⟩ = ∑ n, f n := by
  rw [← Fintype.sum_prod_type']
  refine Fintype.sum_equiv (finProdFinEquiv (m := 100) (n := 1000)) _ _ fun p => ?_
  congr 1
  apply Fin.ext
  show 1000 * p.1.val + p.2.val = p.2.val + 1000 * p.1.val
  omega

end Cert.Segment

end
-- ==== Proof.Payload.lean ====
/-
  The kernel body's payload terms at the extended reals, read at an entry: the sums' step adds to entry `(g, d)` the
  first network's output at column `d` over the block's rows whose event is `g`, the counts' step adds how many they are.
-/
module

public import proofs.«01_k».proof.Proof.Gen.KernelIdeal.Skeleton
public import proofs.«01_k».proof.Proof.Segment
public import Idealize.ShloMosaic.Lib.MatmulPlain
public import Idealize.ShloMosaic.Lib.ValueLayout
public import Idealize.ShloMosaic.Lib.ValueLayoutCasts
public import Idealize.ShloMosaic.Lib.KernelVsHost
public import Idealize.ShloMosaic.Lib.IdealHost
public import Idealize.ShloMosaic.Lib.Pipeline.Value

@[expose] public section

noncomputable section

namespace Cert.KernelIdeal.Sums

open Cert.KernelIdeal Cert.KernelIdeal.Gen Idealize.ShloMosaic Idealize.ShloMosaic.ValueIdx
open scoped BigOperators

/-- Column `d` of the first network's output on row `n`: two affine layers with a cut at zero between. -/
def hidRow {N : Nat} (x : FVec Ideal ⟨2, ![N, 128]⟩ .f32) (W1 : FVec Ideal S128x128 .f32) (b1 : FVec Ideal S128 .f32)
    (W2 : FVec Ideal S128x128 .f32) (b2 : FVec Ideal S128 .f32) (n : Fin N) (d : Fin 128) : EReal :=
  (∑ k : Fin 128, max ((∑ j : Fin 128, x (ix2 n j) * W1 (ix2 j k)) + b1 (ix1 k)) 0 * W2 (ix2 k d)) + b2 (ix1 d)

/-- Entry `(g, r)` of the 0/1 matrix: whether row `r` of the block has event `g`. -/
theorem pay5_apply (ev : Vec Ideal S1x1x1000 .i32) (g : Fin 512) (r : Fin 1000) :
    k0_pay5 (F := Ideal) ev (ix2 g r)
      = if ev (ix3 (0 : Fin 1) (0 : Fin 1) r) = BitVec.ofNat 32 g.val then (1 : EReal) else 0 := by
  unfold k0_pay5
  rw [shapeCast_self]
  have e1 : broadcastTo S512x1000 (shapeCast S1x1000 ev shapeCasts_S1x1x1000_S1x1000) broadcasts_S1x1000_S512x1000 (ix2 g r)
      = ev (ix3 (0 : Fin 1) (0 : Fin 1) r) :=
    (broadcastTo_1b_ab_apply _ _ g r).trans (shapeCast_1ab_ab_apply _ _ (0 : Fin 1) r)
  have e2 : iota .tc S512x1000 32 [0] iota_S512x1000_d0_w32 (ix2 g r) = BitVec.ofNat 32 g.val := by
    rw [iota_single_apply]
  show ((((Scalar.cmpi .eq (broadcastTo S512x1000 (shapeCast S1x1000 ev shapeCasts_S1x1x1000_S1x1000) broadcasts_S1x1000_S512x1000 (ix2 g r))
      (iota .tc S512x1000 32 [0] iota_S512x1000_d0_w32 (ix2 g r))).setWidth 32).toInt : ℝ) : EReal) = _
  rw [e1, e2]
  by_cases h : ev (ix3 (0 : Fin 1) (0 : Fin 1) r) = BitVec.ofNat 32 g.val
  · rw [if_pos h, h]
    simp [Scalar.cmpi, IntOp.cmpi]
  · rw [if_neg h]
    simp [Scalar.cmpi, IntOp.cmpi, beq_eq_false_iff_ne.mpr h]

/-- The sums' step at an entry. -/
theorem pay6_apply (x : Vec Ideal S1000x128 .f32) (W1 : Vec Ideal S128x128 .f32) (b1 : FVec Ideal S128 .f32)
    (W2 : Vec Ideal S128x128 .f32) (b2 : FVec Ideal S128 .f32) (ev : Vec Ideal S1x1x1000 .i32) (a : Vec Ideal S512x128 .f32)
    (g : Fin 512) (d : Fin 128) :
    k0_pay6 (F := Ideal) x W1 (shapeCast S1x128 b1 shapeCasts_S128_S1x128) W2 (shapeCast S1x128 b2 shapeCasts_S128_S1x128) ev a (ix2 g d)
      = (a (ix2 g d) : EReal) + ∑ r : Fin 1000,
          if ev (ix3 (0 : Fin 1) (0 : Fin 1) r) = BitVec.ofNat 32 g.val then hidRow x W1 b1 W2 b2 r d else 0 := by
  unfold k0_pay6
  simp only [shapeCast_self]
  rw [addf_apply]
  congr 1
  refine (Ideal.matmul_plain_apply (M := 512) (K := 1000) (N := 128) none _ _ _ g d).trans ?_
  rw [constant_apply, Ideal.ofBits_zero_f32, zero_add]
  refine Finset.sum_congr rfl fun r _ => ?_
  rw [pay5_apply]
  refine (Segment.indicator_mul _ _).trans (if_congr Iff.rfl ?_ rfl)
  rw [addf_apply]
  unfold hidRow
  congr 1
  · refine (Ideal.matmul_plain_apply (M := 1000) (K := 128) (N := 128) none _ _ _ r d).trans ?_
    rw [constant_apply, Ideal.ofBits_zero_f32, zero_add]
    refine Finset.sum_congr rfl fun k _ => ?_
    congr 1
    rw [maximumf_apply, addf_apply, broadcast_apply]
    refine congrArg₂ max (congrArg₂ (· + ·) ?_ ?_) Ideal.ofBits_zero_f32
    · refine (Ideal.matmul_plain_apply (M := 1000) (K := 128) (N := 128) none _ _ _ r k).trans ?_
      rw [constant_apply, Ideal.ofBits_zero_f32, zero_add]
    · exact (broadcastTo_1b_ab_apply _ _ r k).trans (shapeCast_a_1a_apply _ _ _ _)
  · exact (broadcastTo_1b_ab_apply _ _ r d).trans (shapeCast_a_1a_apply _ _ _ _)

/-- The counts' step at an entry. -/
theorem pay1_apply (ev : Vec Ideal S1x1x1000 .i32) (a : Vec Ideal S512x1 .f32) (g : Fin 512) :
    k0_pay1 (F := Ideal) (k0_pay5 ev) a (ix2 g (0 : Fin 1))
      = (a (ix2 g (0 : Fin 1)) : EReal) + ∑ r : Fin 1000,
          if ev (ix3 (0 : Fin 1) (0 : Fin 1) r) = BitVec.ofNat 32 g.val then (1 : EReal) else 0 := by
  unfold k0_pay1
  simp only [shapeCast_self]
  rw [addf_apply]
  congr 1
  refine (shapeCast_a_a1_apply _ _ g _).trans ?_
  refine (Ideal.multiReduction_add_single _ _ _ _ _ _).trans ?_
  refine Finset.sum_congr rfl fun r _ => ?_
  refine Eq.trans ?_ (pay5_apply ev g r)
  congr 1
  funext b
  match b with
  | ⟨0, _⟩ => rfl
  | ⟨1, _⟩ => rfl

/-- The sums start at zero. -/
theorem pay3_apply (j : S512x128.Idx) : (k0_pay3 (F := Ideal) j : EReal) = 0 := by
  unfold k0_pay3
  rw [shapeCast_self]
  exact Ideal.ofBits_zero_f32

/-- The counts start at zero. -/
theorem pay4_apply (j : S512x1.Idx) : (k0_pay4 (F := Ideal) j : EReal) = 0 := by
  unfold k0_pay4
  rw [shapeCast_self]
  exact Ideal.ofBits_zero_f32

end Cert.KernelIdeal.Sums

end
-- ==== Proof.Totals.lean ====
/-
  What the kernel's result array holds, in terms of the arguments: the second network on the two accumulators as the
  last grid point leaves them, and those accumulators at an entry — the sum of the first network's rows whose event is
  the entry's, over all rows, and how many such rows there are.
-/
module

public import proofs.«01_k».proof.Proof.Gen.KernelIdeal.Value
public import proofs.«01_k».proof.Proof.Cases
public import proofs.«01_k».proof.Proof.Blocks
public import proofs.«01_k».proof.Proof.Payload

@[expose] public section

noncomputable section

namespace Cert.KernelIdeal.Sums

open Cert.KernelIdeal Cert.KernelIdeal.Gen Idealize.ShloMosaic Idealize.ShloMosaic.TcCoe Idealize.ShloMosaic.ValueIdx
open scoped BigOperators

/-! ## The accumulators point by point -/

section Steps
variable {F : FTy → Type} [FloatOps F]
variable (m : (ℓ : Loc nD τ sig) → Buf (Elt F) ℓ) (c : Dev nD)

/-- The sums after point `n`. -/
def acc (n : ℕ) (h : n < cfg0.N) : Vec F S512x128 .f32 := (outsAt0 m c n h).2.1
/-- The counts after point `n`. -/
def cnt (n : ℕ) (h : n < cfg0.N) : Vec F S512x1 .f32 := (outsAt0 m c n h).2.2

/-- The sums' step at point `t`, from the sums `a` before it. -/
def accStep (t : Fin cfg0.N) (a : Vec F S512x128 .f32) : FVec F S512x128 .f32 :=
  k0_pay6 (iblk m c 1 t) (iblk m c 2 t) (iblk m c 3 t) (iblk m c 4 t) (iblk m c 5 t) (iblk m c 0 t) a
/-- The counts' step at point `t`, from the counts `a` before it. -/
def cntStep (t : Fin cfg0.N) (a : Vec F S512x1 .f32) : FVec F S512x1 .f32 := k0_pay1 (k0_pay5 (iblk m c 0 t)) a

/-- The first point's sums. -/
theorem acc_zero (h : 0 < cfg0.N) : acc m c 0 h = accStep m c ⟨0, h⟩ k0_pay3 := by
  unfold acc
  rw [outsAt0_A m c ⟨0, h⟩ rfl (by show ¬0 % 100 = 99; decide)]
  dsimp only
  rw [sout0_A_0_eq]
  rfl

/-- The first point's counts. -/
theorem cnt_zero (h : 0 < cfg0.N) : cnt m c 0 h = cntStep m c ⟨0, h⟩ k0_pay4 := by
  unfold cnt
  rw [outsAt0_A m c ⟨0, h⟩ rfl (by show ¬0 % 100 = 99; decide)]
  dsimp only
  rw [sout0_A_1_eq]
  rfl

/-- Every later point's sums, over the point before's. -/
theorem acc_succ (n : ℕ) (h : n + 1 < cfg0.N) : acc m c (n + 1) h = accStep m c ⟨n + 1, h⟩ (acc m c n (Nat.lt_of_succ_lt h)) := by
  have hN : n + 1 < 100 := lt_of_lt_of_eq h N_0
  have h0 : ¬(⟨n + 1, h⟩ : Fin cfg0.N).val % 100 = 0 := by dsimp only; omega
  unfold acc
  by_cases h1 : (⟨n + 1, h⟩ : Fin cfg0.N).val % 100 = 99
  · rw [outsAt0_C m c ⟨n + 1, h⟩ h0 h1]
    dsimp only
    rw [sout0_C_0_eq]
    rfl
  · rw [outsAt0_B m c ⟨n + 1, h⟩ h0 h1]
    dsimp only
    rw [sout0_B_0_eq]
    rfl

/-- Every later point's counts, over the point before's. -/
theorem cnt_succ (n : ℕ) (h : n + 1 < cfg0.N) : cnt m c (n + 1) h = cntStep m c ⟨n + 1, h⟩ (cnt m c n (Nat.lt_of_succ_lt h)) := by
  have hN : n + 1 < 100 := lt_of_lt_of_eq h N_0
  have h0 : ¬(⟨n + 1, h⟩ : Fin cfg0.N).val % 100 = 0 := by dsimp only; omega
  unfold cnt
  by_cases h1 : (⟨n + 1, h⟩ : Fin cfg0.N).val % 100 = 99
  · rw [outsAt0_C m c ⟨n + 1, h⟩ h0 h1]
    dsimp only
    rw [sout0_C_1_eq]
    rfl
  · rw [outsAt0_B m c ⟨n + 1, h⟩ h0 h1]
    dsimp only
    rw [sout0_B_1_eq]
    rfl

/-- The last point's number is below the grid's size. -/
theorem last_lt : 99 < cfg0.N := lt_of_lt_of_eq (by decide) N_0.symm

/-- The output at a last point: the second network on the accumulators after it. -/
theorem out_succ (n : ℕ) (h : n + 1 < cfg0.N) (h1 : (n + 1) % 100 = 99) :
    (outsAt0 m c (n + 1) h).1 = k0_pay2 (acc m c (n + 1) h) (cnt m c (n + 1) h) (iblk m c 6 ⟨n + 1, h⟩) (iblk m c 7 ⟨n + 1, h⟩)
      (iblk m c 8 ⟨n + 1, h⟩) (iblk m c 9 ⟨n + 1, h⟩) := by
  have h0 : ¬(⟨n + 1, h⟩ : Fin cfg0.N).val % 100 = 0 := by dsimp only; omega
  rw [acc_succ, cnt_succ, outsAt0_C m c ⟨n + 1, h⟩ h0 h1]
  dsimp only
  rw [out0_C_10_eq]
  rfl

/-- The result array: the second network on the accumulators after the last point. -/
theorem result_eq :
    Value.G10 m c = (k0_pay2 (acc m c 99 last_lt) (cnt m c 99 last_lt) (m ((c : Thread nD τ).loc main_arg6))
      (shapeCast S1x256 (m ((c : Thread nD τ).loc main_arg7)) shapeCasts_S256_S1x256) (m ((c : Thread nD τ).loc main_arg8))
      (shapeCast S1x32 (m ((c : Thread nD τ).loc main_arg9)) shapeCasts_S32_S1x32) : FVec F S512x32 .f32) := by
  rw [Value.G10_last, ← Value.outsAt0_sweep m c 99 last_lt, ← block_w6 m c ⟨99, last_lt⟩, ← block_w7 m c ⟨99, last_lt⟩,
    ← block_w8 m c ⟨99, last_lt⟩, ← block_w9 m c ⟨99, last_lt⟩]
  exact out_succ m c 98 last_lt rfl

end Steps

/-! ## The totals at the extended reals -/

/-- A quantity that starts as block 0's total and grows by each next block's is at the end the total over all rows. -/
theorem total (a : (n : ℕ) → n < cfg0.N → EReal) (f : Fin 100000 → EReal)
    (h0 : ∀ h, a 0 h = ∑ r : Fin 1000, f (rowOf ⟨0, h⟩ r))
    (hs : ∀ n h, a (n + 1) h = a n (Nat.lt_of_succ_lt h) + ∑ r : Fin 1000, f (rowOf ⟨n + 1, h⟩ r)) :
    a 99 last_lt = ∑ n, f n := by
  have upto : ∀ n (h : n < cfg0.N), a n h = ∑ t : Fin (n + 1), ∑ r : Fin 1000, f (rowOf ⟨t.val, lt_of_lt_of_le t.isLt h⟩ r) := by
    intro n
    induction n with
    | zero => intro h; rw [h0, Fin.sum_univ_one]; rfl
    | succ n ih =>
      intro h
      rw [hs, ih]
      conv_rhs => rw [Fin.sum_univ_castSucc]
      rfl
  exact (upto 99 last_lt).trans (Segment.sum_blocks f)

section Ideal
variable (m : (ℓ : Loc nD τ sig) → Buf (Elt Ideal) ℓ) (c : Dev nD)

/-- Column `d` of the first network on row `n` of the arguments, if the row's event is `g`. -/
def rowTerm (g : Fin 512) (d : Fin 128) (n : Fin 100000) : EReal :=
  if m ((c : Thread nD τ).loc main_arg1) (ix1 n) = BitVec.ofNat 32 g.val then
    hidRow (m ((c : Thread nD τ).loc main_arg0)) (m ((c : Thread nD τ).loc main_arg2)) (m ((c : Thread nD τ).loc main_arg3))
      (m ((c : Thread nD τ).loc main_arg4)) (m ((c : Thread nD τ).loc main_arg5)) n d
  else 0

/-- One, if row `n`'s event is `g`. -/
def rowOne (g : Fin 512) (n : Fin 100000) : EReal :=
  if m ((c : Thread nD τ).loc main_arg1) (ix1 n) = BitVec.ofNat 32 g.val then 1 else 0

/-- The sums' step adds the block's rows. -/
theorem accStep_apply (t : Fin cfg0.N) (a : Vec Ideal S512x128 .f32) (g : Fin 512) (d : Fin 128) :
    (accStep m c t a (ix2 g d) : EReal) = (a (ix2 g d) : EReal) + ∑ r : Fin 1000, rowTerm m c g d (rowOf t r) := by
  unfold accStep
  rw [block_w2, block_w3, block_w4, block_w5]
  refine (pay6_apply ..).trans (congrArg (fun s : EReal => (a (ix2 g d) : EReal) + s) ?_)
  refine Finset.sum_congr rfl fun r _ => ?_
  rw [block_event]
  unfold rowTerm hidRow
  simp only [block_rows]

/-- The counts' step adds how many of the block's rows have the event. -/
theorem cntStep_apply (t : Fin cfg0.N) (a : Vec Ideal S512x1 .f32) (g : Fin 512) :
    (cntStep m c t a (ix2 g (0 : Fin 1)) : EReal) = (a (ix2 g (0 : Fin 1)) : EReal) + ∑ r : Fin 1000, rowOne m c g (rowOf t r) := by
  unfold cntStep
  refine (pay1_apply ..).trans (congrArg (fun s : EReal => (a (ix2 g (0 : Fin 1)) : EReal) + s) ?_)
  refine Finset.sum_congr rfl fun r _ => ?_
  rw [block_event]
  rfl

/-- The finished sums at `(g, d)`: over all rows whose event is `g`. -/
theorem acc_last (g : Fin 512) (d : Fin 128) : (acc m c 99 last_lt (ix2 g d) : EReal) = ∑ n, rowTerm m c g d n :=
  total (fun n h => acc m c n h (ix2 g d)) (rowTerm m c g d)
    (fun h => by
      show (acc m c 0 h (ix2 g d) : EReal) = _
      rw [acc_zero, accStep_apply, pay3_apply, zero_add])
    (fun n h => by
      show (acc m c (n + 1) h (ix2 g d) : EReal) = _
      rw [acc_succ, accStep_apply])

/-- The finished count at `g`: how many rows have that event. -/
theorem cnt_last (g : Fin 512) : (cnt m c 99 last_lt (ix2 g (0 : Fin 1)) : EReal) = ∑ n, rowOne m c g n :=
  total (fun n h => cnt m c n h (ix2 g (0 : Fin 1))) (rowOne m c g)
    (fun h => by
      show (cnt m c 0 h (ix2 g (0 : Fin 1)) : EReal) = _
      rw [cnt_zero, cntStep_apply, pay4_apply, zero_add])
    (fun n h => by
      show (cnt m c (n + 1) h (ix2 g (0 : Fin 1)) : EReal) = _
      rw [cnt_succ, cntStep_apply])

end Ideal

end Cert.KernelIdeal.Sums

end
-- ==== Proof.Equation.lean ====
/-
  The reference's result and the kernel's are one array. The reference's term is named in four parts: the first network
  on every row, its sums per event, the counts per event, and the second network on the two. The sums and the counts are
  read at an entry and meet the kernel's finished accumulators; the second network is the kernel's last payload, word for
  word up to how a bias row is laid along the rows and in which order the count is cut at one.
-/
module

public import proofs.«01_k».proof.Proof.Totals
public import proofs.«01_k».proof.Proof.Gen.ReferenceIdeal.Run

@[expose] public section

noncomputable section

namespace Cert.Equation

open Cert.ReferenceIdeal Cert.ReferenceIdeal.Gen
open Idealize.ShloMosaic Idealize.ShloMosaic.TcCoe Idealize.ShloMosaic.ValueIdx
open Cert.KernelIdeal.Sums (hidRow rowTerm rowOne acc cnt acc_last cnt_last last_lt result_eq)
open scoped BigOperators

/-! ## The reference's parts -/

/-- The first network on every row. -/
def hidden (x : FVec Ideal S100000x128 .f32) (W1 : FVec Ideal S128x128 .f32) (b1 : FVec Ideal S128 .f32)
    (W2 : FVec Ideal S128x128 .f32) (b2 : FVec Ideal S128 .f32) : FVec Ideal S100000x128 .f32 :=
  addf (Host.dotGeneral dot_S100000x128_S128x128_S100000x128_1_0_0_1_n_n none
      (maximumf (addf (Host.dotGeneral dot_S100000x128_S128x128_S100000x128_1_0_0_1_n_n none x W1)
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32))) W2)
    (broadcastInDim S100000x128 ![0, 1] bcast_S1x128_S100000x128_0_1 (broadcastInDim S1x128 ![1] bcast_S128_S1x128_1 b2))

/-- The rows of `h` added up by event. -/
def sums (ev : IVec S100000 32) (h : FVec Ideal S100000x128 .f32) : FVec Ideal S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 ev) h

/-- The number of rows of each event. -/
def counts (ev : IVec S100000 32) : FVec Ideal S512x1 .f32 :=
  Host.scatterAdd scatter_S512x1_S100000x1_S100000x1_1_0_0_1
    (broadcastInDim S512x1 ![] bcast_S_S512x1 (constant S_ .f32 0x00000000#32))
    (broadcastInDim S100000x1 ![0] bcast_S100000_S100000x1_0 ev)
    (broadcastInDim S100000x1 ![] bcast_S_S100000x1 (constant S_ .f32 0x3F800000#32))

/-- The mean per event, an event with no row counted as having one. -/
def means (s : FVec Ideal S512x128 .f32) (n : FVec Ideal S512x1 .f32) : FVec Ideal S512x128 .f32 :=
  Host.divf s (broadcastInDim S512x128 ![0, 1] bcast_S512x1_S512x128_0_1
    (maximumf (broadcastInDim S512x1 ![] bcast_S_S512x1 (id (constant S_ .f32 0x3F800000#32))) n))

/-- The second network on sums and means side by side. -/
def head (s : FVec Ideal S512x128 .f32) (n : FVec Ideal S512x1 .f32) (W3 : FVec Ideal S256x256 .f32) (b3 : FVec Ideal S256 .f32)
    (W4 : FVec Ideal S256x32 .f32) (b4 : FVec Ideal S32 .f32) : FVec Ideal S512x32 .f32 :=
  addf (Host.dotGeneral dot_S512x256_S256x32_S512x32_1_0_0_1_n_n none
      (maximumf (addf (Host.dotGeneral dot_S512x256_S256x256_S512x256_1_0_0_1_n_n none
            (concatenate S512x256 1 [⟨S512x128, s⟩, ⟨S512x128, means s n⟩] concatenates_S512x128_S512x128_S512x256_d1) W3)
          (broadcastInDim S512x256 ![0, 1] bcast_S1x256_S512x256_0_1 (broadcastInDim S1x256 ![1] bcast_S256_S1x256_1 b3)))
        (broadcastInDim S512x256 ![] bcast_S_S512x256 (constant S_ .f32 0x00000000#32))) W4)
    (broadcastInDim S512x32 ![0, 1] bcast_S1x32_S512x32_0_1 (broadcastInDim S1x32 ![1] bcast_S32_S1x32_1 b4))

/-! ## A bias row along the rows -/

section Bias
variable {m n : Nat} {α : Type} (v : (⟨1, ![n]⟩ : Shape).Idx → α)

/-- The reference's two broadcasts read the vector at the column. -/
theorem bias_apply (h1 : (⟨1, ![n]⟩ : Shape).BroadcastsInDim ⟨2, ![1, n]⟩ ![1])
    (h2 : (⟨2, ![1, n]⟩ : Shape).BroadcastsInDim ⟨2, ![m, n]⟩ ![0, 1]) (r : Fin m) (t : Fin n) :
    broadcastInDim ⟨2, ![m, n]⟩ ![0, 1] h2 (broadcastInDim ⟨2, ![1, n]⟩ ![1] h1 v) (ix2 r t) = v (ix1 t) := by
  refine (broadcastInDim_oneRow_apply h2 _ r t).trans (broadcastInDim_apply ![1] h1 v _ (ix1 t) fun a => ?_)
  match a with
  | ⟨0, _⟩ =>
    show t.val = if n = 1 then 0 else t.val
    have := t.isLt
    split <;> omega

/-- The kernel's broadcast of the one-row cast is the reference's two broadcasts. -/
theorem bias_eq (h1 : (⟨1, ![n]⟩ : Shape).BroadcastsInDim ⟨2, ![1, n]⟩ ![1])
    (h2 : (⟨2, ![1, n]⟩ : Shape).BroadcastsInDim ⟨2, ![m, n]⟩ ![0, 1])
    (h3 : (⟨1, ![n]⟩ : Shape).ShapeCasts ⟨2, ![1, n]⟩) (h4 : (⟨2, ![1, n]⟩ : Shape).Broadcasts ⟨2, ![m, n]⟩) :
    broadcastTo ⟨2, ![m, n]⟩ (shapeCast ⟨2, ![1, n]⟩ v h3) h4
      = broadcastInDim ⟨2, ![m, n]⟩ ![0, 1] h2 (broadcastInDim ⟨2, ![1, n]⟩ ![1] h1 v) := by
  funext j
  obtain ⟨r, t, rfl⟩ : ∃ (r : Fin m) (t : Fin n), j = ix2 r t := ⟨_, _, eq_ix2 j⟩
  rw [bias_apply, broadcastTo_1b_ab_apply]
  exact shapeCast_a_1a_apply _ _ _ _

end Bias

/-! ## The parts at an entry -/

/-- The first network's row `n`, column `d`. -/
theorem hidden_apply (x : FVec Ideal S100000x128 .f32) (W1 : FVec Ideal S128x128 .f32) (b1 : FVec Ideal S128 .f32)
    (W2 : FVec Ideal S128x128 .f32) (b2 : FVec Ideal S128 .f32) (n : Fin 100000) (d : Fin 128) :
    (hidden x W1 b1 W2 b2 (ix2 n d) : EReal) = hidRow x W1 b1 W2 b2 n d := by
  unfold hidden hidRow
  rw [← matmul_zero_eq_dotGeneral, ← matmul_zero_eq_dotGeneral, addf_apply]
  refine congrArg₂ (fun p q : EReal => p + q) ?_ (bias_apply b2 _ _ n d)
  refine (Ideal.matmul_plain_apply (M := 100000) (K := 128) (N := 128) none _ _ _ n d).trans ?_
  rw [constant_apply, Ideal.ofBits_zero_f32, zero_add]
  refine Finset.sum_congr rfl fun k _ => congrArg (fun p : EReal => p * W2 (ix2 k d)) ?_
  rw [maximumf_apply, addf_apply]
  refine congrArg₂ max (congrArg₂ (fun p q : EReal => p + q) ?_ (bias_apply b1 _ _ n k)) ?_
  · refine (Ideal.matmul_plain_apply (M := 100000) (K := 128) (N := 128) none _ _ _ n k).trans ?_
    rw [constant_apply, Ideal.ofBits_zero_f32, zero_add]
  · exact (broadcastInDim_scalar_apply _ _ _).trans Ideal.ofBits_zero_f32

/-- The index array's only column is the events. -/
theorem index_apply (ev : IVec S100000 32) (n : Fin 100000) :
    broadcastInDim S100000x1 ![0] bcast_S100000_S100000x1_0 ev (ix2 n (0 : Fin 1)) = ev (ix1 n) := by
  refine broadcastInDim_apply (s := S100000) (t := S100000x1) ![0] _ ev _ (ix1 n) fun a => ?_
  match a with
  | ⟨0, _⟩ => rfl

/-- The sums at an entry. -/
theorem sums_apply (ev : IVec S100000 32) (h : FVec Ideal S100000x128 .f32) (g : Fin 512) (d : Fin 128) :
    (sums ev h (ix2 g d) : EReal) = ∑ n : Fin 100000, if ev (ix1 n) = BitVec.ofNat 32 g.val then (h (ix2 n d) : EReal) else 0 := by
  refine (Segment.rows_scatterAdd_apply (E := 512) (N := 100000) (D := 128)
    scatter_S512x128_S100000x1_S100000x128_1_0_0_1_wf _ _ _ g d).trans ?_
  rw [broadcastInDim_scalar_apply, constant_apply, Ideal.ofBits_zero_f32, zero_add]
  refine Finset.sum_congr rfl fun n _ => if_congr ?_ rfl rfl
  rw [index_apply]
  exact Segment.toInt_eq_iff _ g

/-- The counts at an entry. -/
theorem counts_apply (ev : IVec S100000 32) (g : Fin 512) :
    (counts ev (ix2 g (0 : Fin 1)) : EReal) = ∑ n : Fin 100000, if ev (ix1 n) = BitVec.ofNat 32 g.val then (1 : EReal) else 0 := by
  refine (Segment.rows_scatterAdd_apply (E := 512) (N := 100000) (D := 1)
    scatter_S512x1_S100000x1_S100000x1_1_0_0_1_wf _ _ _ g (0 : Fin 1)).trans ?_
  rw [broadcastInDim_scalar_apply, constant_apply, Ideal.ofBits_zero_f32, zero_add]
  refine Finset.sum_congr rfl fun n _ => if_congr ?_ ?_ rfl
  · rw [index_apply]
    exact Segment.toInt_eq_iff _ g
  · exact (broadcastInDim_scalar_apply _ _ _).trans Ideal.ofBits_one_f32

/-- The kernel's quotient is the reference's mean. -/
theorem means_eq (s : FVec Ideal S512x128 .f32) (n : FVec Ideal S512x1 .f32) (h : S512x1.Broadcasts S512x128) :
    divf s (broadcastTo S512x128 (maximumf n (broadcast S512x1 (Scalar.ofBits .f32 0x3F800000#32))) h) = means s n := by
  funext j
  obtain ⟨g, d, rfl⟩ : ∃ (g : Fin 512) (d : Fin 128), j = ix2 g d := ⟨_, _, eq_ix2 j⟩
  unfold means
  rw [divf_apply, hostDivf_apply]
  refine congrArg (Ideal.div (s (ix2 g d))) ?_
  refine (broadcastTo_apply (s := S512x1) (t := S512x128) _ h (ix2 g d) (ix2 g (0 : Fin 1)) fun a => ?_).trans
    (Eq.trans ?_ (broadcastInDim_apply (s := S512x1) (t := S512x128) ![0, 1] _ _ (ix2 g d) (ix2 g (0 : Fin 1)) fun a => ?_).symm)
  · match a with
    | ⟨0, _⟩ => rfl
    | ⟨1, _⟩ => rfl
  · rw [maximumf_apply, maximumf_apply, broadcast_apply, broadcastInDim_scalar_apply]
    exact max_comm _ _
  · match a with
    | ⟨0, _⟩ => rfl
    | ⟨1, _⟩ => rfl

/-- The kernel's last payload is the reference's second network. -/
theorem head_eq (s : FVec Ideal S512x128 .f32) (n : FVec Ideal S512x1 .f32) (W3 : FVec Ideal S256x256 .f32) (b3 : FVec Ideal S256 .f32)
    (W4 : FVec Ideal S256x32 .f32) (b4 : FVec Ideal S32 .f32) :
    Cert.KernelIdeal.Gen.k0_pay2 (F := Ideal) s n W3
      (shapeCast Cert.KernelIdeal.S1x256 b3 Cert.KernelIdeal.Gen.shapeCasts_S256_S1x256) W4
      (shapeCast Cert.KernelIdeal.S1x32 b4 Cert.KernelIdeal.Gen.shapeCasts_S32_S1x32) = head s n W3 b3 W4 b4 := by
  unfold Cert.KernelIdeal.Gen.k0_pay2 head
  simp only [shapeCast_self, matmul_zero_eq_dotGeneral]
  rw [means_eq]
  refine congrArg₂ addf (congrArg (fun t => Host.dotGeneral _ none t W4) (congrArg₂ maximumf (congrArg₂ addf rfl ?_) ?_)) ?_
  · exact bias_eq b3 _ _ _ _
  · funext j
    rw [broadcastInDim_scalar_apply]
    rfl
  · exact bias_eq b4 _ _ _ _

/-! ## The equation -/

section Tie
variable (m : (ℓ : Loc Cert.KernelIdeal.nD Cert.KernelIdeal.τ Cert.KernelIdeal.sig) → Buf (Elt Ideal) ℓ) (c : Dev Cert.KernelIdeal.nD)

/-- The kernel's finished sums are the reference's. -/
theorem acc_eq : acc m c 99 last_lt = sums (m ((c : Thread Cert.KernelIdeal.nD Cert.KernelIdeal.τ).loc Cert.KernelIdeal.main_arg1))
    (hidden (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))) := by
  funext j
  obtain ⟨g, d, rfl⟩ : ∃ (g : Fin 512) (d : Fin 128), j = ix2 g d := ⟨_, _, eq_ix2 j⟩
  refine (acc_last m c g d).trans ((sums_apply _ _ g d).trans ?_).symm
  refine Finset.sum_congr rfl fun n _ => ?_
  rw [hidden_apply]
  rfl

/-- The kernel's finished counts are the reference's. -/
theorem cnt_eq : cnt m c 99 last_lt = counts (m ((c : Thread Cert.KernelIdeal.nD Cert.KernelIdeal.τ).loc Cert.KernelIdeal.main_arg1)) := by
  funext j
  obtain ⟨g, z, rfl⟩ : ∃ (g : Fin 512) (z : Fin 1), j = ix2 g z := ⟨_, _, eq_ix2 j⟩
  obtain rfl : z = 0 := Subsingleton.elim _ _
  exact (cnt_last m c g).trans (counts_apply _ g).symm

/-- The kernel's result is the reference's second network on the reference's sums and counts. -/
theorem kernel_eq : Cert.KernelIdeal.Value.G10 m c
    = head (sums (m ((c : Thread Cert.KernelIdeal.nD Cert.KernelIdeal.τ).loc Cert.KernelIdeal.main_arg1))
        (hidden (m ((c : Thread Cert.KernelIdeal.nD Cert.KernelIdeal.τ).loc Cert.KernelIdeal.main_arg0))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))))
      (counts (m ((c : Thread Cert.KernelIdeal.nD Cert.KernelIdeal.τ).loc Cert.KernelIdeal.main_arg1)))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9)) := by
  rw [result_eq, acc_eq, cnt_eq]
  exact head_eq _ _ _ _ _ _

end Tie

end Cert.Equation

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7, a8, a9⟩ := hagree c
  rw [(h c).1, a0, a1, a2, a3, a4, a5, a6, a7, a8, a9]
  exact (Cert.Equation.kernel_eq m c).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
